-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x2048 : Shape := ⟨2, ![32768, 2048]⟩
abbrev S32768 : Shape := ⟨1, ![32768]⟩
abbrev S16x1x2048 : Shape := ⟨3, ![16, 1, 2048]⟩
abbrev S16x2048 : Shape := ⟨2, ![16, 2048]⟩
abbrev S1x1x2048 : Shape := ⟨3, ![1, 1, 2048]⟩
abbrev S2048x2048 : Shape := ⟨2, ![2048, 2048]⟩
abbrev S1x16 : Shape := ⟨2, ![1, 16]⟩
abbrev S2048 : Shape := ⟨1, ![2048]⟩
abbrev S2048x1 : Shape := ⟨2, ![2048, 1]⟩
abbrev S2048x16 : Shape := ⟨2, ![2048, 16]⟩
abbrev S16 : Shape := ⟨1, ![16]⟩
abbrev S16x1 : Shape := ⟨2, ![16, 1]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S16x1x2048, .i32⟩
  | .hbm, ⟨3, _⟩ => ⟨S16x2048, .f32⟩
  | .local _ .vmem, ⟨0, _⟩ => ⟨S1x1x2048, .i32⟩
  | .local _ .vmem, ⟨1, _⟩ => ⟨S1x1x2048, .i32⟩
  | .local _ .vmem, ⟨2, _⟩ => ⟨S2048x2048, .f32⟩
  | .local _ .vmem, ⟨3, _⟩ => ⟨S2048x2048, .f32⟩
  | .local _ .vmem, ⟨4, _⟩ => ⟨S16x2048, .f32⟩
  | .local _ .vmem, ⟨5, _⟩ => ⟨S1x16, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32768x2048 : Shape := ⟨2, ![32768, 2048]⟩
abbrev S32768 : Shape := ⟨1, ![32768]⟩
abbrev S_ : Shape := ⟨0, ![]⟩
abbrev S16x2048 : Shape := ⟨2, ![16, 2048]⟩
abbrev S32768x1 : Shape := ⟨2, ![32768, 1]⟩
abbrev S16 : Shape := ⟨1, ![16]⟩
abbrev S16x1 : Shape := ⟨2, ![16, 1]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S_, .f32⟩
  | .hbm, ⟨3, _⟩ => ⟨S16x2048, .f32⟩
  | .hbm, ⟨4, _⟩ => ⟨S32768x1, .i32⟩
  | .hbm, ⟨5, _⟩ => ⟨S16x2048, .f32⟩
  | .hbm, ⟨6, _⟩ => ⟨S_, .f32⟩
  | .hbm, ⟨7, _⟩ => ⟨S32768, .f32⟩
  | .hbm, ⟨8, _⟩ => ⟨S_, .f32⟩
  | .hbm, ⟨9, _⟩ => ⟨S16, .f32⟩
  | .hbm, ⟨10, _⟩ => ⟨S32768x1, .i32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16x1, .f32⟩
  | .hbm, ⟨16, _⟩ => ⟨S16x2048, .f32⟩
  | .hbm, ⟨17, _⟩ => ⟨S16x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.Payload.lean ====
module

public import proofs.«01_k».proof.Proof.Gen.KernelIdeal.Skeleton
public import Idealize.ShloMosaic.Lib.Pointwise
public import Idealize.ShloMosaic.Lib.IdealHost

/-! What one block computes: the values the kernel's body stores, read at an entry. -/

@[expose] public section

noncomputable section

namespace Cert.SegMean

open Cert.KernelIdeal Cert.KernelIdeal.Gen Idealize.ShloMosaic

/-- A 32-bit word is the word of a number below 16 exactly when, read as a signed number, it is that number. -/
theorem word_eq_iff (w : BitVec 32) (k : Fin 16) : w = BitVec.ofNat 32 k.val ↔ w.toInt = (k.val : Int) := by
  have hk := k.isLt
  have e : (BitVec.ofNat 32 k.val).toInt = (k.val : Int) := by
    have h : ∀ k : Fin 16, (BitVec.ofNat 32 k.val).toInt = (k.val : Int) := by decide
    exact h k
  exact ⟨fun h => by rw [h, e], fun h => BitVec.eq_of_toInt_eq (by rw [h, e])⟩

/-- The one-hot matrix of a block: entry `(r, k)` is one where row `r` is of class `k`, and zero elsewhere. -/
theorem oneHot_apply (ids : Vec Ideal S1x1x2048 .i32) (r : Fin 2048) (k : Fin 16) :
    k0_pay3 ids (ix2 r k) = if (ids (ix3 (0 : Fin 1) (0 : Fin 1) r)).toInt = (k.val : Int) then (1 : EReal) else 0 := by
  pointwise [k0_pay3]
  have hk := k.isLt
  generalize ids (ix3 0 0 r) = w
  rw [show IntOp.cmpi CmpIPredicate.eq w (BitVec.ofNat 32 k.val) = BitVec.ofBool (w == BitVec.ofNat 32 k.val) from rfl]
  have hiff : w = BitVec.ofNat 32 k.val ↔ w.toInt = (k.val : Int) := word_eq_iff w k
  by_cases h : w = BitVec.ofNat 32 k.val
  · rw [if_pos (hiff.1 h), beq_iff_eq.2 h]
    show (((1 : ℤ) : ℝ) : EReal) = 1
    norm_num
  · rw [if_neg fun e => h (hiff.2 e), beq_eq_false_iff_ne.2 h]
    show (((0 : ℤ) : ℝ) : EReal) = 0
    norm_num

/-- The stored sums at `(k, l)`: what was there plus, over the block's rows, the one-hot entry times the value. -/
theorem addBlock_apply (ids : Vec Ideal S1x1x2048 .i32) (acc : Vec Ideal S16x2048 .f32) (x : Vec Ideal S2048x2048 .f32)
    (k : Fin 16) (l : Fin 2048) :
    k0_pay4 ids acc x (ix2 k l) = acc (ix2 k l) + ∑ r : Fin 2048, k0_pay3 ids (ix2 r k) * x (ix2 r l) := by
  pointwise [k0_pay4]

/-- The stored counts at `k`: what was there plus, over the block's rows, the one-hot entry. -/
theorem addCount_apply (ids : Vec Ideal S1x1x2048 .i32) (cnt : Vec Ideal S1x16 .f32) (k : Fin 16) :
    k0_pay5 ids cnt (ix2 (0 : Fin 1) k) = cnt (ix2 (0 : Fin 1) k) + ∑ r : Fin 2048, k0_pay3 ids (ix2 r k) := by
  pointwise [k0_pay5]

/-- The stored quotient at `(k, l)`: the sum over the greater of the count and one. -/
theorem quotient_apply (sums : Vec Ideal S16x2048 .f32) (cnt : Vec Ideal S1x16 .f32) (k : Fin 16) (l : Fin 2048) :
    k0_pay6 sums cnt (ix2 k l) = Ideal.div (sums (ix2 k l)) (max (cnt (ix2 (0 : Fin 1) k)) 1) := by
  pointwise [k0_pay6]

/-- The sums are reset to zero. -/
theorem zeroSums_apply (j : S16x2048.Idx) : k0_pay1 (F := Ideal) j = 0 := by
  pointwise [k0_pay1]

/-- The counts are reset to zero. -/
theorem zeroCount_apply (j : S1x16.Idx) : k0_pay2 (F := Ideal) j = 0 := by
  pointwise [k0_pay2]

end Cert.SegMean

end
-- ==== Proof.Cases.lean ====
module

public import proofs.«01_k».proof.Proof.Gen.KernelIdeal.Frame
public import Idealize.ShloMosaic.Lib.Pipeline.ValueKit.Basic

/-! What one run of the kernel's body leaves in its two buffers — the class sums and the class counts — in each of
    the three cases: the first point, a middle point, the last point. -/

@[expose] public section

noncomputable section

namespace Cert.SegMean

open Cert.KernelIdeal Cert.KernelIdeal.Gen Idealize.ShloMosaic Idealize.ShloMosaic.TcCoe Idealize.SL.Sem

variable {F : FTy → Type} [FloatOps F]

/-- The offsets of a load or store of a whole rank-2 buffer are zero. -/
theorem offs2 : (![0, 0] : Fin 2 → Nat) = fun _ => 0 := by
  funext a; fin_cases a <;> rfl

/-- The offsets of a load of a whole rank-3 buffer are zero. -/
theorem offs3 : (![0, 0, 0] : Fin 3 → Nat) = fun _ => 0 := by
  funext a; fin_cases a <;> rfl

/-- At the first point the sums' buffer is the block's class sums added to zeros. -/
theorem first_sums (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : cond0_0 i) (hc1 : ¬cond0_1 i) (x0 : Vec F S1x1x2048 .i32) (x1 : Vec F S2048x2048 .f32) :
    out0_A_2 c i arg1 harg1 arg2 harg2 arg3 harg3 arg4 harg4 hc0 hc1 x0 x1 = k0_pay4 x0 k0_pay1 x1 := by
  unfold out0_A_2
  rw [View.read_writes_eq_canon _ _ _ (cover0_A_2 c i arg1 harg1 arg2 harg2 arg3 harg3 arg4 harg4 hc0 hc1 x0 x1)]
  unfold kernelRun0_A
  dsimp only
  sl_unfold_words
  rw [View.canon_cons_unit_zero (S := S16x2048) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

/-- At the first point the counts' buffer is the block's class counts added to zeros. -/
theorem first_counts (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : cond0_0 i) (hc1 : ¬cond0_1 i) (x0 : Vec F S1x1x2048 .i32) (x1 : Vec F S2048x2048 .f32) :
    sout0_A_0 c i arg1 harg1 arg2 harg2 arg3 harg3 arg4 harg4 hc0 hc1 x0 x1 = k0_pay5 x0 k0_pay2 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S1x16) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

/-- At a point between the first and the last the block's class sums are added to what the sums' buffer held. -/
theorem middle_sums (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : ¬cond0_0 i) (hc1 : ¬cond0_1 i) (x0 : Vec F S1x1x2048 .i32) (x1 : Vec F S2048x2048 .f32) (xo : Vec F S16x2048 .f32) (xs : Vec F S1x16 .f32) :
    out0_B_2 c i arg1 harg1 arg2 harg2 arg3 harg3 arg4 harg4 hc0 hc1 x0 x1 xo xs = k0_pay4 x0 xo x1 := by
  unfold out0_B_2
  rw [View.read_writes_eq_canon _ _ _ (cover0_B_2 c i arg1 harg1 arg2 harg2 arg3 harg3 arg4 harg4 hc0 hc1 x0 x1 xo xs)]
  unfold kernelRun0_B
  dsimp only
  sl_unfold_words
  rw [View.canon_cons_unit_zero (S := S16x2048) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

/-- At a point between the first and the last the block's class counts are added to what the counts' buffer held. -/
theorem middle_counts (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : ¬cond0_0 i) (hc1 : ¬cond0_1 i) (x0 : Vec F S1x1x2048 .i32) (x1 : Vec F S2048x2048 .f32) (xo : Vec F S16x2048 .f32) (xs : Vec F S1x16 .f32) :
    sout0_B_0 c i arg1 harg1 arg2 harg2 arg3 harg3 arg4 harg4 hc0 hc1 x0 x1 xo xs = k0_pay5 x0 xs := by
  unfold sout0_B_0
  rw [View.read_writes_eq_canon _ _ _ (scover0_B_0 c i arg1 harg1 arg2 harg2 arg3 harg3 arg4 harg4 hc0 hc1 x0 x1 xo xs)]
  unfold kernelRun0_B
  dsimp only
  sl_unfold_words
  rw [View.canon_cons_unit_zero (S := S1x16) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

/-- At the last point the block's class sums are added to what the sums' buffer held, and the result is divided by the counts as just updated. -/
theorem last_sums (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : ¬cond0_0 i) (hc1 : cond0_1 i) (x0 : Vec F S1x1x2048 .i32) (x1 : Vec F S2048x2048 .f32) (xo : Vec F S16x2048 .f32) (xs : Vec F S1x16 .f32) :
    out0_C_2 c i arg1 harg1 arg2 harg2 arg3 harg3 arg4 harg4 hc0 hc1 x0 x1 xo xs = k0_pay6 (k0_pay4 x0 xo x1) (k0_pay5 x0 xs) := by
  unfold out0_C_2
  rw [View.read_writes_eq_canon _ _ _ (cover0_C_2 c i arg1 harg1 arg2 harg2 arg3 harg3 arg4 harg4 hc0 hc1 x0 x1 xo xs)]
  unfold kernelRun0_C
  dsimp only
  sl_unfold_words
  rw [View.canon_cons_unit_zero (S := S16x2048) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

/-- At the last point the block's class counts are added to what the counts' buffer held. -/
theorem last_counts (c : Dev nD) (i : grid0.Coords) (arg1 : Memref sig .tc .vmem S1x1x2048 .i32) (harg1 : arg1.IsWhole) (arg2 : Memref sig .tc .vmem S2048x2048 .f32) (harg2 : arg2.IsWhole)
    (arg3 : Memref sig .tc .vmem S16x2048 .f32) (harg3 : arg3.IsWhole) (arg4 : Memref sig .tc .vmem S1x16 .f32) (harg4 : arg4.IsWhole)
    (hc0 : ¬cond0_0 i) (hc1 : cond0_1 i) (x0 : Vec F S1x1x2048 .i32) (x1 : Vec F S2048x2048 .f32) (xo : Vec F S16x2048 .f32) (xs : Vec F S1x16 .f32) :
    sout0_C_0 c i arg1 harg1 arg2 harg2 arg3 harg3 arg4 harg4 hc0 hc1 x0 x1 xo xs = k0_pay5 x0 xs := by
  unfold sout0_C_0
  rw [View.read_writes_eq_canon _ _ _ (scover0_C_0 c i arg1 harg1 arg2 harg2 arg3 harg3 arg4 harg4 hc0 hc1 x0 x1 xo xs)]
  unfold kernelRun0_C
  dsimp only
  sl_unfold_words
  rw [View.canon_cons_unit_zero (S := S1x16) offs2]
  simp only [View.readCov_unit_zero (S := S16x2048) _ offs2, View.readCov_unit_zero (S := S1x16) _ offs2, View.readAt_eq_ld,
    harg1.read_unread, harg2.read_unread, harg3.read_unread, harg4.read_unread, View.ld_unit_zero (S := S1x1x2048) offs3,
    View.ld_unit_zero (S := S2048x2048) offs2, View.ld_unit_zero (S := S16x2048) offs2, View.ld_unit_zero (S := S1x16) offs2]

end Cert.SegMean

end
-- ==== Proof.Blocks.lean ====
module

public import proofs.«01_k».proof.Proof.Gen.KernelIdeal.Frame
public import Idealize.ShloMosaic.Lib.Pipeline.ValueKit.Basic
public import Idealize.ShloMosaic.Lib.Pointwise

/-! Which entries of the two arguments the kernel's body is given at a grid point. -/

@[expose] public section

noncomputable section

namespace Cert.SegMean

open Cert.KernelIdeal Cert.KernelIdeal.Gen Idealize.ShloMosaic Idealize.ShloMosaic.TcCoe Idealize.SL.Sem

variable (m : (ℓ : Loc nD τ sig) → Buf (Elt Ideal) ℓ)

/-- At point `t` the block of values is block row `t`, over all columns. -/
theorem valueBlock : ∀ t : Fin cfg0.N, win0_1.index t 0 = t.val ∧ win0_1.index t 1 = 0 :=
  (by decide +kernel : ∀ t : Fin grid0.N, win0_1.index t 0 = t.val ∧ win0_1.index t 1 = 0)

/-- At point `t` the block of class numbers is block `t`. -/
theorem classBlock : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- The row of the array that is row `r` of block `t`. -/
def rowOf (t : Fin cfg0.N) (r : Fin 2048) : Fin 32768 :=
  ⟨2048 * t.val + r.val, by have h := lt_of_lt_of_eq t.isLt (show cfg0.N = 16 from N_0); have := r.isLt; omega⟩

/-- Entry `(r, l)` of the values at point `t` is entry `(2048 t + r, l)` of the first argument. -/
theorem values_apply (c : Dev nD) (t : Fin cfg0.N) (r l : Fin 2048) :
    (iblk m c 1 t : Vec Ideal S2048x2048 .f32) (ix2 r l)
      = (m ((c : Thread nD τ).loc main_arg0) : Vec Ideal S32768x2048 .f32) (ix2 (rowOf t r) l) := by
  unfold iblk
  rw [View.read_apply]
  show V m c main_arg0 _ = _
  rw [V_main_arg0]
  congr 1
  funext a
  apply Fin.ext
  match a with
  | ⟨0, _⟩ =>
    show win0_1.index t 0 * 2048 + 1 * r.val = 2048 * t.val + r.val
    rw [(valueBlock t).1]; omega
  | ⟨1, _⟩ =>
    show win0_1.index t 1 * 2048 + 1 * l.val = l.val
    rw [(valueBlock t).2]; omega

/-- A vector of 32768 entries as 16 blocks of 2048: entry `r` of block `a` is the vector's entry `2048 a + r`. -/
theorem shapeCast_blocks {α : Type} (v : S32768.Idx → α) (h : S32768.ShapeCasts S16x1x2048) (a : Fin 16) (r : Fin 2048) :
    shapeCast S16x1x2048 v h (ix3 a (0 : Fin 1) r) = v (ix1 ⟨2048 * a.val + r.val, by have := a.isLt; have := r.isLt; omega⟩) := by
  pointwise
  refine congrArg v (congrArg ix1 (Fin.ext ?_))
  show a.val * 2048 + r.val = 2048 * a.val + r.val
  omega

/-- The class numbers as the kernel is given them: the second argument as 16 blocks of 2048. -/
theorem classes_reshaped (c : Dev nD) :
    (V m c main_v0 : Vec Ideal S16x1x2048 .i32)
      = shapeCast S16x1x2048 (m ((c : Thread nD τ).loc main_arg1) : Vec Ideal S32768 .i32) shapeCasts_S32768_S16x1x2048 := by
  unfold V hostOps0
  after_results
  rfl

/-- Entry `r` of the class numbers at point `t` is entry `2048 t + r` of the second argument. -/
theorem classes_apply (c : Dev nD) (t : Fin cfg0.N) (r : Fin 2048) :
    (iblk m c 0 t : Vec Ideal S1x1x2048 .i32) (ix3 (0 : Fin 1) (0 : Fin 1) r)
      = (m ((c : Thread nD τ).loc main_arg1) : Vec Ideal S32768 .i32) (ix1 (rowOf t r)) := by
  unfold iblk
  rw [View.read_apply]
  show (V m c main_v0 : Vec Ideal S16x1x2048 .i32) _ = _
  rw [classes_reshaped]
  have e : ((cfg0.win 0).blk t).view.emb (ix3 (0 : Fin 1) (0 : Fin 1) r) = (ix3 (⟨t.val, lt_of_lt_of_eq t.isLt (show cfg0.N = 16 from N_0)⟩ : Fin 16) (0 : Fin 1) r : S16x1x2048.Idx) := by
    funext a
    apply Fin.ext
    match a with
    | ⟨0, _⟩ =>
      show win0_0.index t 0 * 1 + 1 * 0 = t.val
      rw [(classBlock t).1]; omega
    | ⟨1, _⟩ =>
      show win0_0.index t 1 * 1 + 1 * 0 = 0
      rw [(classBlock t).2.1]
    | ⟨2, _⟩ =>
      show win0_0.index t 2 * 2048 + 1 * r.val = r.val
      rw [(classBlock t).2.2]; omega
  rw [e, shapeCast_blocks]
  rfl

end Cert.SegMean

end
-- ==== Proof.Means.lean ====
module

public import proofs.«01_k».proof.Proof.Gen.KernelIdeal.Skeleton
public import Idealize.ShloMosaic.Lib.Pointwise
public import Idealize.ShloMosaic.Lib.IdealHost

/-! The mathematics both programs compute: the sum of the rows of a class, the number of its rows, and their quotient;
    and the running form of the two sums, over the rows below a bound. -/

@[expose] public section

noncomputable section

namespace Cert.SegMean

open Cert.KernelIdeal Idealize.ShloMosaic

variable (ids : Vec Ideal S32768 .i32) (x : Vec Ideal S32768x2048 .f32)

/-- The sum, in column `l`, of the rows of `x` whose class is `k`. -/
def classSum (k : Fin 16) (l : Fin 2048) : EReal :=
  ∑ r : Fin 32768, if (ids (ix1 r)).toInt = (k.val : Int) then x (ix2 r l) else 0

/-- The number of rows whose class is `k`. -/
def classCount (k : Fin 16) : EReal :=
  ∑ r : Fin 32768, if (ids (ix1 r)).toInt = (k.val : Int) then 1 else 0

/-- The mean, in column `l`, of the rows of class `k`: their sum over their number, or over one where there is none. -/
def classMean (k : Fin 16) (l : Fin 2048) : EReal :=
  Ideal.div (classSum ids x k l) (max (classCount ids k) 1)

/-- What row `n` adds to the sum of class `k` in column `l`: its value there if it is of the class, else zero (and zero
    past the last row). -/
def rowTerm (k : Fin 16) (l : Fin 2048) (n : ℕ) : EReal :=
  if h : n < 32768 then if (ids (ix1 ⟨n, h⟩)).toInt = (k.val : Int) then x (ix2 ⟨n, h⟩ l) else 0 else 0

/-- What row `n` adds to the count of class `k`: one if it is of the class, else zero. -/
def rowOne (k : Fin 16) (n : ℕ) : EReal :=
  if h : n < 32768 then if (ids (ix1 ⟨n, h⟩)).toInt = (k.val : Int) then 1 else 0 else 0

/-- What a row of the array adds to the sum. -/
theorem rowTerm_val (k : Fin 16) (l : Fin 2048) (r : Fin 32768) :
    rowTerm ids x k l r.val = if (ids (ix1 r)).toInt = (k.val : Int) then x (ix2 r l) else 0 :=
  dif_pos r.isLt

/-- What a row of the array adds to the count. -/
theorem rowOne_val (k : Fin 16) (r : Fin 32768) :
    rowOne ids k r.val = if (ids (ix1 r)).toInt = (k.val : Int) then 1 else 0 :=
  dif_pos r.isLt

/-- The class sum over the rows, row by row from the first. -/
theorem sum_rowTerm (k : Fin 16) (l : Fin 2048) : ∑ n ∈ Finset.range 32768, rowTerm ids x k l n = classSum ids x k l := by
  rw [Finset.sum_range]
  exact Finset.sum_congr rfl fun r _ => rowTerm_val ids x k l r

/-- The class count over the rows, row by row from the first. -/
theorem sum_rowOne (k : Fin 16) : ∑ n ∈ Finset.range 32768, rowOne ids k n = classCount ids k := by
  rw [Finset.sum_range]
  exact Finset.sum_congr rfl fun r _ => rowOne_val ids k r

/-- The first `t + 1` blocks of 2048 terms are the first `t` blocks and then block `t`. -/
theorem sum_blocks_succ (g : ℕ → EReal) (t : ℕ) :
    ∑ n ∈ Finset.range (2048 * (t + 1)), g n
      = ∑ n ∈ Finset.range (2048 * t), g n + ∑ r : Fin 2048, g (2048 * t + r.val) := by
  rw [Nat.mul_succ, Finset.sum_range_add, Finset.sum_range fun r => g (2048 * t + r)]

end Cert.SegMean

end
-- ==== Proof.Running.lean ====
module

public import proofs.«01_k».proof.Proof.Payload
public import proofs.«01_k».proof.Proof.Cases
public import proofs.«01_k».proof.Proof.Blocks
public import proofs.«01_k».proof.Proof.Means
public import proofs.«01_k».proof.Proof.Gen.KernelIdeal.Value

/-! What the kernel's two buffers hold after each grid point, and so what its result array holds: the class means. -/

@[expose] public section

noncomputable section

namespace Cert.SegMean

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The values the kernel is launched on: the first argument. -/
abbrev xs (c : Dev nD) : Vec Ideal S32768x2048 .f32 := m ((c : Thread nD τ).loc main_arg0)

/-- The class numbers the kernel is launched on: the second argument. -/
abbrev ids (c : Dev nD) : Vec Ideal S32768 .i32 := m ((c : Thread nD τ).loc main_arg1)

/-- Adding block `t`'s class sums to the sums over the blocks before it gives the sums over the blocks up to it. -/
theorem addBlock_rows (c : Dev nD) (t : Fin cfg0.N) (acc : Vec Ideal S16x2048 .f32) (k : Fin 16) (l : Fin 2048)
    (hacc : acc (ix2 k l) = ∑ n ∈ Finset.range (2048 * t.val), rowTerm (ids m c) (xs m c) k l n) :
    k0_pay4 (iblk m c 0 t) acc (iblk m c 1 t) (ix2 k l)
      = ∑ n ∈ Finset.range (2048 * (t.val + 1)), rowTerm (ids m c) (xs m c) k l n := by
  rw [addBlock_apply, sum_blocks_succ, hacc]
  refine congrArg (_ + ·) (Finset.sum_congr rfl fun r _ => ?_)
  rw [oneHot_apply, classes_apply, values_apply, ite_mul, one_mul, zero_mul]
  exact (rowTerm_val (ids m c) (xs m c) k l (rowOf t r)).symm

/-- Adding block `t`'s class counts to the counts over the blocks before it gives the counts over the blocks up to it. -/
theorem addCount_rows (c : Dev nD) (t : Fin cfg0.N) (cnt : Vec Ideal S1x16 .f32) (k : Fin 16)
    (hcnt : cnt (ix2 (0 : Fin 1) k) = ∑ n ∈ Finset.range (2048 * t.val), rowOne (ids m c) k n) :
    k0_pay5 (iblk m c 0 t) cnt (ix2 (0 : Fin 1) k) = ∑ n ∈ Finset.range (2048 * (t.val + 1)), rowOne (ids m c) k n := by
  rw [addCount_apply, sum_blocks_succ, hcnt]
  refine congrArg (_ + ·) (Finset.sum_congr rfl fun r _ => ?_)
  rw [oneHot_apply, classes_apply]
  exact (rowOne_val (ids m c) k (rowOf t r)).symm

/-- After point `n`, which is not the last, the sums' buffer holds the class sums over the rows of the blocks up to `n`
    and the counts' buffer the class counts over them. -/
theorem running (c : Dev nD) : ∀ (n : ℕ) (h : n < cfg0.N), n < 15 →
    (∀ (k : Fin 16) (l : Fin 2048), (outsAt0 m c n h).1 (ix2 k l)
      = ∑ i ∈ Finset.range (2048 * (n + 1)), rowTerm (ids m c) (xs m c) k l i)
    ∧ (∀ k : Fin 16, (outsAt0 m c n h).2 (ix2 (0 : Fin 1) k) = ∑ i ∈ Finset.range (2048 * (n + 1)), rowOne (ids m c) k i)
  | 0, h, _ => by
    rw [outsAt0_A m c ⟨0, h⟩ (show 0 % 16 = 0 by decide) (show ¬0 % 16 = 15 by decide), first_sums, first_counts]
    exact ⟨fun k l => addBlock_rows m c ⟨0, h⟩ _ k l (by rw [zeroSums_apply]; rfl),
      fun k => addCount_rows m c ⟨0, h⟩ _ k (by rw [zeroCount_apply]; rfl)⟩
  | n + 1, h, hn => by
    obtain ⟨hs, hc⟩ := running c n (Nat.lt_of_succ_lt h) (by omega)
    rw [outsAt0_B m c ⟨n + 1, h⟩ (by dsimp only; omega) (by dsimp only; omega), middle_sums, middle_counts]
    exact ⟨fun k l => addBlock_rows m c ⟨n + 1, h⟩ _ k l (hs k l), fun k => addCount_rows m c ⟨n + 1, h⟩ _ k (hc k)⟩

/-- The kernel's result array ends holding, at `(k, l)`, the mean in column `l` of the rows of class `k`. -/
theorem kernel_means (c : Dev nD) (k : Fin 16) (l : Fin 2048) :
    (G2 m c : Vec Ideal S16x2048 .f32) (ix2 k l) = classMean (ids m c) (xs m c) k l := by
  have h15 : 15 < cfg0.N := lt_of_lt_of_eq (by decide) N_0.symm
  obtain ⟨hs, hc⟩ := running m c 14 (Nat.lt_of_succ_lt h15) (by decide)
  rw [G2_last, ← outsAt0_sweep m c 15 h15, outsAt0_C m c ⟨15, h15⟩ (show ¬15 % 16 = 0 by decide) (show 15 % 16 = 15 by decide), last_sums]
  refine (quotient_apply _ _ k l).trans ?_
  exact congrArg₂ (fun s n => Ideal.div s (max n 1))
    ((addBlock_rows m c ⟨15, h15⟩ _ k l (hs k l)).trans (sum_rowTerm (ids m c) (xs m c) k l))
    ((addCount_rows m c ⟨15, h15⟩ _ k (hc k)).trans (sum_rowOne (ids m c) k))

end Cert.SegMean

end
-- ==== Proof.Reference.lean ====
module

public import proofs.«01_k».proof.Proof.Gen.ReferenceIdeal
public import proofs.«01_k».proof.Proof.Means
public import Idealize.ShloMosaic.Lib.Routing.OpsPair

/-! What the reference computes: each of its two scatters adds, to the entries of a class, the updates of that class's
    rows; so its result holds the class means. -/

@[expose] public section

noncomputable section

namespace Cert.SegMean

open Cert.ReferenceIdeal Cert.ReferenceIdeal.Gen Idealize.ShloMosaic

/-- The update of row `r`, column `c` of the values lands at entry `(k, l)` exactly when the row's class is `k` and
    `c` is `l`. -/
theorem sums_lands (idx : IVec S32768x1 32) (r : Fin 32768) (c : Fin 2048) (k : Fin 16) (l : Fin 2048) :
    scatter_S16x2048_S32768x1_S32768x2048_1_0_0_1.resultIdx? (ix2 r c) idx = some (ix2 k l)
      ↔ (idx (ix2 r (0 : Fin 1))).toInt = (k.val : Int) ∧ c = l := by
  have hs0 : scatter_S16x2048_S32768x1_S32768x2048_1_0_0_1.start (ix2 r c) idx 0 = (idx (ix2 r (0 : Fin 1))).toInt := by
    refine congrArg (fun p => (idx p).toInt) (funext fun b => ?_)
    match b with
    | ⟨0, _⟩ => rfl
    | ⟨1, _⟩ => rfl
  have hs1 : scatter_S16x2048_S32768x1_S32768x2048_1_0_0_1.start (ix2 r c) idx 1 = 0 := rfl
  have hw0 : scatter_S16x2048_S32768x1_S32768x2048_1_0_0_1.window (ix2 r c) 0 = 0 := rfl
  have hw1 : scatter_S16x2048_S32768x1_S32768x2048_1_0_0_1.window (ix2 r c) 1 = c.val := rfl
  rw [Routing.resultIdx?_eq_some]
  constructor
  · intro h
    have h0 := h 0
    have h1 := h 1
    rw [hs0, hw0] at h0
    rw [hs1, hw1] at h1
    change _ = (k.val : Int) at h0
    change _ = (l.val : Int) at h1
    exact ⟨by omega, Fin.ext (by omega)⟩
  · rintro ⟨h, rfl⟩ a
    match a with
    | ⟨0, _⟩ =>
      show scatter_S16x2048_S32768x1_S32768x2048_1_0_0_1.start (ix2 r c) idx 0 + (scatter_S16x2048_S32768x1_S32768x2048_1_0_0_1.window (ix2 r c) 0 : Int) = (k.val : Int)
      rw [hs0, hw0]; omega
    | ⟨1, _⟩ =>
      show scatter_S16x2048_S32768x1_S32768x2048_1_0_0_1.start (ix2 r c) idx 1 + (scatter_S16x2048_S32768x1_S32768x2048_1_0_0_1.window (ix2 r c) 1 : Int) = (c.val : Int)
      rw [hs1, hw1]; omega

/-- The update of row `r` lands at entry `k` exactly when the row's class is `k`. -/
theorem counts_lands (idx : IVec S32768x1 32) (r : Fin 32768) (k : Fin 16) :
    scatter_S16_S32768x1_S32768_n_0_0_1.resultIdx? (ix1 r) idx = some (ix1 k)
      ↔ (idx (ix2 r (0 : Fin 1))).toInt = (k.val : Int) := by
  have hs0 : scatter_S16_S32768x1_S32768_n_0_0_1.start (ix1 r) idx 0 = (idx (ix2 r (0 : Fin 1))).toInt := by
    refine congrArg (fun p => (idx p).toInt) (funext fun b => ?_)
    match b with
    | ⟨0, _⟩ => rfl
    | ⟨1, _⟩ => rfl
  have hw0 : scatter_S16_S32768x1_S32768_n_0_0_1.window (ix1 r) 0 = 0 := rfl
  rw [Routing.resultIdx?_eq_some]
  constructor
  · intro h
    have h0 := h 0
    rw [hs0, hw0] at h0
    change _ = (k.val : Int) at h0
    omega
  · intro h a
    match a with
    | ⟨0, _⟩ =>
      show scatter_S16_S32768x1_S32768_n_0_0_1.start (ix1 r) idx 0 + (scatter_S16_S32768x1_S32768_n_0_0_1.window (ix1 r) 0 : Int) = (k.val : Int)
      rw [hs0, hw0]; omega

/-- The scatter of the values into zeros holds the class sums. -/
theorem sums_scattered (ids : IVec S32768 32) (x : FVec Ideal S32768x2048 .f32) (zeros : FVec Ideal S16x2048 .f32)
    (idx : IVec S32768x1 32) (hz : ∀ j, zeros j = 0) (hidx : ∀ r : Fin 32768, idx (ix2 r (0 : Fin 1)) = ids (ix1 r))
    (k : Fin 16) (l : Fin 2048) :
    (Host.scatterAdd scatter_S16x2048_S32768x1_S32768x2048_1_0_0_1 zeros idx x : FVec Ideal S16x2048 .f32) (ix2 k l)
      = classSum ids x k l := by
  show zeros (ix2 k l) + ∑ j ∈ Finset.univ.filter (fun j => scatter_S16x2048_S32768x1_S32768x2048_1_0_0_1.resultIdx? j idx = some (ix2 k l)), x j = _
  rw [hz, zero_add, Finset.sum_filter, sum_idx2]
  refine Finset.sum_congr rfl fun r _ => ?_
  simp only [sums_lands, hidx]
  by_cases h : (ids (ix1 r)).toInt = (k.val : Int)
  · simp only [h, true_and, if_true, Finset.sum_ite_eq', Finset.mem_univ]
  · simp only [h, false_and, if_false, Finset.sum_const_zero]

/-- The scatter of ones into zeros holds the class counts. -/
theorem counts_scattered (ids : IVec S32768 32) (zeros : FVec Ideal S16 .f32) (ones : FVec Ideal S32768 .f32)
    (idx : IVec S32768x1 32) (hz : ∀ j, zeros j = 0) (ho : ∀ j, ones j = 1)
    (hidx : ∀ r : Fin 32768, idx (ix2 r (0 : Fin 1)) = ids (ix1 r)) (k : Fin 16) :
    (Host.scatterAdd scatter_S16_S32768x1_S32768_n_0_0_1 zeros idx ones : FVec Ideal S16 .f32) (ix1 k) = classCount ids k := by
  show zeros (ix1 k) + ∑ j ∈ Finset.univ.filter (fun j => scatter_S16_S32768x1_S32768_n_0_0_1.resultIdx? j idx = some (ix1 k)), ones j = _
  rw [hz, zero_add, Finset.sum_filter, sum_idx1]
  refine Finset.sum_congr rfl fun r _ => ?_
  simp only [counts_lands, hidx, ho]

/-- The reference's result at `(k, l)` is the mean in column `l` of the rows of class `k`. -/
theorem reference_means (ids : IVec S32768 32) (x : FVec Ideal S32768x2048 .f32) (k : Fin 16) (l : Fin 2048) :
    (Host.divf (Host.scatterAdd scatter_S16x2048_S32768x1_S32768x2048_1_0_0_1
          (broadcastInDim S16x2048 ![] bcast_S_S16x2048 (constant S_ .f32 0x00000000#32))
          (broadcastInDim S32768x1 ![0] bcast_S32768_S32768x1_0 ids) x)
        (broadcastInDim S16x2048 ![0, 1] bcast_S16x1_S16x2048_0_1 (broadcastInDim S16x1 ![0] bcast_S16_S16x1_0
          (maximumf (Host.scatterAdd scatter_S16_S32768x1_S32768_n_0_0_1
              (broadcastInDim S16 ![] bcast_S_S16 (constant S_ .f32 0x00000000#32))
              (broadcastInDim S32768x1 ![0] bcast_S32768_S32768x1_0 ids)
              (broadcastInDim S32768 ![] bcast_S_S32768 (constant S_ .f32 0x3F800000#32)))
            (broadcastInDim S16 ![] bcast_S_S16 (constant S_ .f32 0x3F800000#32))))) : FVec Ideal S16x2048 .f32) (ix2 k l)
      = classMean ids x k l := by
  have hidx : ∀ r : Fin 32768, broadcastInDim S32768x1 ![0] bcast_S32768_S32768x1_0 ids (ix2 r (0 : Fin 1)) = ids (ix1 r) := by
    intro r
    pointwise
  have hs := sums_scattered ids x (broadcastInDim S16x2048 ![] bcast_S_S16x2048 (constant S_ .f32 0x00000000#32)) _
    (fun j => by pointwise) hidx k l
  have hc := counts_scattered ids (broadcastInDim S16 ![] bcast_S_S16 (constant S_ .f32 0x00000000#32))
    (broadcastInDim S32768 ![] bcast_S_S32768 (constant S_ .f32 0x3F800000#32)) _
    (fun j => by pointwise) (fun j => by pointwise) hidx k
  generalize (Host.scatterAdd scatter_S16x2048_S32768x1_S32768x2048_1_0_0_1
          (broadcastInDim S16x2048 ![] bcast_S_S16x2048 (constant S_ .f32 0x00000000#32))
          (broadcastInDim S32768x1 ![0] bcast_S32768_S32768x1_0 ids) x : FVec Ideal S16x2048 .f32) = sums at hs ⊢
  generalize (Host.scatterAdd scatter_S16_S32768x1_S32768_n_0_0_1
              (broadcastInDim S16 ![] bcast_S_S16 (constant S_ .f32 0x00000000#32))
              (broadcastInDim S32768x1 ![0] bcast_S32768_S32768x1_0 ids)
              (broadcastInDim S32768 ![] bcast_S_S32768 (constant S_ .f32 0x3F800000#32)) : FVec Ideal S16 .f32) = counts at hc ⊢
  pointwise
  rw [hs, hc]
  rfl

end Cert.SegMean

end
-- ==== Proof.Equation.lean ====
module

public import proofs.«01_k».proof.Proof.Running
public import proofs.«01_k».proof.Proof.Reference

/-! The equation of the claim: on the same arguments the reference's result is the kernel's, entry by entry the class
    means. -/

@[expose] public section

noncomputable section

namespace Cert.SegMean

open Cert.ReferenceIdeal Cert.ReferenceIdeal.Gen Idealize.ShloMosaic Idealize.ShloMosaic.TcCoe

variable (m : (ℓ : Loc KernelIdeal.nD KernelIdeal.τ KernelIdeal.sig) → Buf (Elt Ideal) ℓ)

/-- The reference's result, computed from the arguments the kernel is launched on, is what the kernel's result array
    ends holding. -/
theorem reference_eq_kernel (c : Dev KernelIdeal.nD) :
    (Host.divf (Host.scatterAdd scatter_S16x2048_S32768x1_S32768x2048_1_0_0_1
          (broadcastInDim S16x2048 ![] bcast_S_S16x2048 (constant S_ .f32 0x00000000#32))
          (broadcastInDim S32768x1 ![0] bcast_S32768_S32768x1_0 (ids m c)) (xs m c))
        (broadcastInDim S16x2048 ![0, 1] bcast_S16x1_S16x2048_0_1 (broadcastInDim S16x1 ![0] bcast_S16_S16x1_0
          (maximumf (Host.scatterAdd scatter_S16_S32768x1_S32768_n_0_0_1
              (broadcastInDim S16 ![] bcast_S_S16 (constant S_ .f32 0x00000000#32))
              (broadcastInDim S32768x1 ![0] bcast_S32768_S32768x1_0 (ids m c))
              (broadcastInDim S32768 ![] bcast_S_S32768 (constant S_ .f32 0x3F800000#32)))
            (broadcastInDim S16 ![] bcast_S_S16 (constant S_ .f32 0x3F800000#32))))) : FVec Ideal S16x2048 .f32)
      = KernelIdeal.Value.G2 m c := by
  funext j
  obtain ⟨k, l, rfl⟩ : ∃ (k : Fin 16) (l : Fin 2048), j = ix2 k l := ⟨j 0, j 1, eq_ix2 j⟩
  exact (reference_means (ids m c) (xs m c) k l).trans (kernel_means m c k l).symm

end Cert.SegMean

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs to the end, leaves its arguments unchanged, and leaves no counter set. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On memories that agree on the arguments, the kernel and the reference end with the same result array. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact Cert.SegMean.reference_eq_kernel m c

/-- All the claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
